-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S2x4096x4096 : Shape := ⟨3, ![2, 4096, 4096]⟩
abbrev S64x4096 : Shape := ⟨2, ![64, 4096]⟩
abbrev S_ : Shape := ⟨0, ![]⟩

class Facts : Prop where
  bcast_S_S2x4096x4096 : S_.BroadcastsInDim S2x4096x4096 (![] : Fin 0 → Fin S2x4096x4096.rank)
  bcast_S_S64x4096 : S_.BroadcastsInDim S64x4096 (![] : Fin 0 → Fin S64x4096.rank)

variable [Facts]

def fn {F : FTy → Type} [FloatOps F] (main_arg0 : FVec F S2x4096x4096 .f32) (main_arg1 : FVec F S64x4096 .f32) : IVec S2x4096x4096 1 × IVec S64x4096 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_v3 : FVec F S64x4096 .f32 := Host.absf main_arg1
  let main_cst_0 : FVec F S_ .f32 := constant S_ .f32 0x7F800000#32
  let main_v4 : FVec F S64x4096 .f32 := broadcastInDim S64x4096 ![] bcast_S_S64x4096 main_cst_0
  let main_v5 : IVec S64x4096 1 := cmpf .olt main_v3 main_v4
  (main_v2, main_v5)
-- ==== Kernel.lean ====
abbrev S2x4096x4096 : Shape := ⟨3, ![2, 4096, 4096]⟩
abbrev S64x4096 : Shape := ⟨2, ![64, 4096]⟩
abbrev S8192x4096 : Shape := ⟨2, ![8192, 4096]⟩
abbrev S8192x8 : Shape := ⟨2, ![8192, 8]⟩
abbrev S1024x2048 : Shape := ⟨2, ![1024, 2048]⟩
abbrev S64x2048 : Shape := ⟨2, ![64, 2048]⟩
abbrev S1024x8 : Shape := ⟨2, ![1024, 8]⟩
abbrev S64x1024 : Shape := ⟨2, ![64, 1024]⟩
abbrev S1024 : Shape := ⟨1, ![1024]⟩
abbrev S1x1024 : Shape := ⟨2, ![1, 1024]⟩
abbrev S8x1024 : Shape := ⟨2, ![8, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S8192x8, .i32⟩
  | .hbm, ⟨4, _⟩ => ⟨S8192x8, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S64x2048, .f32⟩
  | .local _ .vmem, ⟨4, _⟩ => ⟨S1024x8, .i32⟩
  | .local _ .vmem, ⟨5, _⟩ => ⟨S1024x8, .i32⟩
  | .local _ .vmem, ⟨6, _⟩ => ⟨S1024x8, .f32⟩
  | .local _ .vmem, ⟨7, _⟩ => ⟨S1024x8, .f32⟩
  | .local _ .vmem, ⟨8, _⟩ => ⟨S64x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S2x4096x4096 : Shape := ⟨3, ![2, 4096, 4096]⟩
abbrev S64x4096 : Shape := ⟨2, ![64, 4096]⟩
abbrev S8192x4096 : Shape := ⟨2, ![8192, 4096]⟩
abbrev S4096x64 : Shape := ⟨2, ![4096, 64]⟩
abbrev S8192x64 : Shape := ⟨2, ![8192, 64]⟩
abbrev S8192x8 : Shape := ⟨2, ![8192, 8]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S4096x64, .f32⟩
  | .hbm, ⟨4, _⟩ => ⟨S8192x64, .f32⟩
  | .hbm, ⟨5, _⟩ => ⟨S8192x8, .f32⟩
  | .hbm, ⟨6, _⟩ => ⟨S8192x8, .i32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x8, .f32⟩
  | .hbm, ⟨20, _⟩ => ⟨S8192x8, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x8, .f32⟩
  | .hbm, ⟨28, _⟩ => ⟨S8192x8, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Ranking.lean ====
/-
  Ranking a finite row of extended reals: the stable descending sort of the row, and the rounds that take the first
  maximum and overwrite it with `-∞`, name the same positions in the same order, as long as no entry of the row is
  `-∞` itself. No program is mentioned here.
-/
module

public import Idealize.ShloMosaic.Lib.SortFacts
public import Mathlib.Data.EReal.Basic

@[expose] public section

noncomputable section

namespace Cert.Gate

open Idealize.ShloMosaic

variable {n : Nat}

/-- `a` is ranked ahead of `b`: its entry is larger, or the entries are equal and `a` is the smaller position. -/
def Ahead (x : Fin n → EReal) (a b : Fin n) : Prop := x b < x a ∨ (x a = x b ∧ a < b)

/-- The comparator of a descending sort: the entry at `a` is strictly larger than the one at `b`. -/
def larger (x : Fin n → EReal) (a b : Fin n) : Bool := decide (x b < x a)

/-- The position whose entry a stable descending sort of the row puts at place `k`. -/
def rank (x : Fin n → EReal) : Fin n → Fin n := sortedFrom (larger x)

theorem Ahead.le {x : Fin n → EReal} {a b : Fin n} (h : Ahead x a b) : x b ≤ x a := by
  rcases h with h | h
  · exact h.le
  · exact h.1.ge

/-- Inserting a position that precedes all the listed ones keeps a list ranked. -/
theorem ranked_insert (x : Fin n → EReal) (a : Fin n) (l : List (Fin n)) (hl : l.Pairwise (Ahead x))
    (ha : ∀ b ∈ l, a < b) : (insertBefore (larger x) a l).Pairwise (Ahead x) := by
  induction l with
  | nil => exact List.pairwise_singleton _ _
  | cons b l ih =>
    rw [List.pairwise_cons] at hl
    unfold insertBefore
    split
    · rename_i hb
      refine List.pairwise_cons.mpr ⟨fun c hc => ?_, ih hl.2 fun c hc => ha c (List.mem_cons_of_mem _ hc)⟩
      rcases List.mem_cons.mp ((perm_insertBefore (larger x) a l).mem_iff.mp hc) with rfl | hc'
      · exact Or.inl (of_decide_eq_true hb)
      · exact hl.1 c hc'
    · rename_i hb
      have hba : x b ≤ x a := not_lt.mp fun h => hb (decide_eq_true h)
      refine List.pairwise_cons.mpr ⟨fun c hc => ?_, List.pairwise_cons.mpr hl⟩
      have hca : x c ≤ x a := by
        rcases List.mem_cons.mp hc with rfl | hc'
        · exact hba
        · exact (hl.1 c hc').le.trans hba
      rcases hca.lt_or_eq with h | h
      · exact Or.inl h
      · exact Or.inr ⟨h.symm, ha c hc⟩

/-- A stable descending sort of an increasing list of positions is ranked. -/
theorem ranked_sort (x : Fin n → EReal) (l : List (Fin n)) (hl : l.Pairwise (· < ·)) :
    (stableSort (larger x) l).Pairwise (Ahead x) := by
  induction l with
  | nil => exact List.Pairwise.nil
  | cons a l ih =>
    rw [List.pairwise_cons] at hl
    unfold stableSort
    exact ranked_insert x a _ (ih hl.2) fun b hb => hl.1 b ((perm_stableSort (larger x) l).mem_iff.mp hb)

/-- An earlier place holds a position ranked ahead of a later place's. -/
theorem rank_ahead (x : Fin n → EReal) {i j : Fin n} (hij : i < j) : Ahead x (rank x i) (rank x j) :=
  List.pairwise_iff_get.mp (ranked_sort x (List.finRange n) (List.pairwise_lt_finRange n)) _ _ hij

theorem rank_injective (x : Fin n → EReal) : Function.Injective (rank x) := sortedFrom_injective _

theorem rank_surjective (x : Fin n → EReal) : Function.Surjective (rank x) := sortedFrom_surjective _

/-- The row after `k` rounds: the positions at the first `k` places overwritten with `-∞`. -/
def left (x : Fin n → EReal) (k : Nat) (e : Fin n) : EReal := if ∃ i : Fin n, i.val < k ∧ rank x i = e then ⊥ else x e

theorem left_zero (x : Fin n → EReal) : left x 0 = x := by
  funext e
  unfold left
  rw [if_neg]
  rintro ⟨i, hi, -⟩
  exact absurd hi (Nat.not_lt_zero _)

/-- Round `k` still finds the entry at place `k`. -/
theorem left_rank (x : Fin n → EReal) (k : Fin n) : left x k (rank x k) = x (rank x k) := by
  unfold left
  rw [if_neg]
  rintro ⟨i, hi, h⟩
  rw [rank_injective x h] at hi
  exact lt_irrefl _ hi

/-- Every entry that round `k` sees is at most the one at place `k`. -/
theorem left_le (x : Fin n → EReal) (k : Fin n) (e : Fin n) : left x k e ≤ x (rank x k) := by
  unfold left
  split
  · exact bot_le
  · rename_i h
    obtain ⟨i, rfl⟩ := rank_surjective x e
    have hki : k ≤ i := not_lt.mp fun hi => h ⟨i, hi, rfl⟩
    rcases hki.lt_or_eq with hlt | rfl
    · exact (rank_ahead x hlt).le
    · exact le_rfl

/-- Among the entries that round `k` sees, the one at place `k` is the FIRST maximum (no entry is `-∞`). -/
theorem rank_le_of_left_eq (x : Fin n → EReal) (hx : ∀ e, ⊥ < x e) (k : Fin n) (e : Fin n)
    (h : left x k e = x (rank x k)) : rank x k ≤ e := by
  unfold left at h
  split at h
  · exact absurd h (hx _).ne
  · rename_i hn
    obtain ⟨i, rfl⟩ := rank_surjective x e
    have hki : k ≤ i := not_lt.mp fun hi => hn ⟨i, hi, rfl⟩
    rcases hki.lt_or_eq with hlt | rfl
    · rcases rank_ahead x hlt with h' | h'
      · exact absurd h h'.ne
      · exact h'.2.le
    · exact le_rfl

/-- Overwriting the entry at place `k` leaves the row that round `k + 1` sees. -/
theorem left_succ (x : Fin n → EReal) (k : Fin n) (e : Fin n) :
    (if e = rank x k then ⊥ else left x k e) = left x (k.val + 1) e := by
  unfold left
  by_cases he : e = rank x k
  · rw [if_pos he, if_pos ⟨k, Nat.lt_succ_self _, he.symm⟩]
  · rw [if_neg he]
    have hiff : (∃ i : Fin n, i.val < k.val ∧ rank x i = e) ↔ ∃ i : Fin n, i.val < k.val + 1 ∧ rank x i = e := by
      constructor
      · rintro ⟨i, hi, h⟩
        exact ⟨i, Nat.lt_succ_of_lt hi, h⟩
      · rintro ⟨i, hi, h⟩
        refine ⟨i, lt_of_le_of_ne (Nat.lt_succ_iff.mp hi) fun hik => he ?_, h⟩
        rw [← h, Fin.ext hik]
    simp only [hiff]

end Cert.Gate

end
-- ==== Proof.Spec.lean ====
/-
  The gate in plain mathematics over the extended reals: a token's logits, the eight experts of highest logit (ties to
  the smaller expert), and their renormalised softmax weights. Both programs are shown to compute these.
-/
module

public import proofs.«01_k».proof.Proof.Ranking
public import Idealize.ShloMosaic.Lib.Pointwise

@[expose] public section

noncomputable section

namespace Cert.Gate

open Idealize.ShloMosaic

/-- The logit of expert `e` for token `r`: token `r` is row `r % 4096` of batch `r / 4096`. -/
def logit (hs : (⟨3, ![2, 4096, 4096]⟩ : Shape).Idx → EReal) (w : (⟨2, ![64, 4096]⟩ : Shape).Idx → EReal)
    (r : Fin 8192) (e : Fin 64) : EReal :=
  ∑ k : Fin 4096, hs (ix3 ⟨r.val / 4096, by omega⟩ ⟨r.val % 4096, by omega⟩ k) * w (ix2 e k)

/-- The eight places of the result, among the 64 of the ranking. -/
def place (j : Fin 8) : Fin 64 := ⟨j.val, by omega⟩

/-- The expert at place `j`, as the stored word. -/
def topIdx (x : Fin 64 → EReal) (j : Fin 8) : BitVec 32 := BitVec.ofNat 32 (rank x (place j)).val

/-- The logit at place `j`. -/
def topVal (x : Fin 64 → EReal) (j : Fin 8) : EReal := x (rank x (place j))

/-- A logit's share of the softmax over the eight, measured from the first. -/
def share (v : Fin 8 → EReal) (j : Fin 8) : EReal := Ideal.div (Ideal.exp (v j - v 0)) (∑ i, Ideal.exp (v i - v 0))

/-- The weight at place `j`: its share, divided by the sum of the shares plus the literal (the f32 nearest `1e-20`). -/
def gate (v : Fin 8 → EReal) (j : Fin 8) : EReal :=
  Ideal.div (share v j) (∑ i, share v i + Ideal.ofBits .f32 0x1E3CE508#32)

/-- The f32 pattern of minus infinity denotes the least extended real. -/
theorem ofBits_neg_inf : Ideal.ofBits .f32 0xFF800000#32 = ⊥ := by simp [Ideal.ofBits, Ideal.ieee]

/-- A fold of the maximum from `-∞` is any upper bound that is attained. -/
theorem fold_max_eq {n : Nat} (f : Fin n → EReal) (p : Fin n) (h : ∀ e, f e ≤ f p) :
    Finset.univ.fold max ⊥ f = f p := by
  apply le_antisymm
  · exact (Finset.fold_max_le _).mpr ⟨bot_le, fun e _ => h e⟩
  · exact (Finset.le_fold_max _).mpr (Or.inr ⟨p, Finset.mem_univ _, le_rfl⟩)

/-- The first of the eight is the largest of them. -/
theorem topVal_le (x : Fin 64 → EReal) (j : Fin 8) : topVal x j ≤ topVal x 0 := by
  rcases (Fin.zero_le j).eq_or_lt with rfl | h
  · exact le_rfl
  · exact (rank_ahead x (i := place 0) (j := place j) h).le

end Cert.Gate

end
-- ==== Proof.Rounds.lean ====
/-
  One round of the kernel's top-k, on a tile of 64 experts by 1024 tokens, and its eight repetitions: the maximum over
  the experts, the least expert that attains it, and the tile with that expert overwritten by `-∞`. If the tile holds,
  in every column, the row left after `k` rounds, then the round finds the entry and the expert of rank `k` and leaves
  the row of `k + 1` rounds.
-/
module

public import proofs.«01_k».proof.Proof.Spec
public import proofs.«01_k».proof.Proof.Gen.KernelIdeal.Frame
public import Idealize.ShloMosaic.Lib.Pointwise
public import Idealize.ShloMosaic.Lib.WordCmp

@[expose] public section

set_option maxRecDepth 16384

noncomputable section

namespace Cert.Gate

open Idealize.ShloMosaic Cert.KernelIdeal Cert.KernelIdeal.Gen

/-- A round's maximum over the 64 experts, one per token of the tile. -/
def best (cur : FVec Ideal S64x1024 .f32) : FVec Ideal S1x1024 .f32 :=
  shapeCast S1x1024 (multiReduction .maximumf [0] S1024 cur 0xFF800000#32 reduces_S64x1024_S1024 (.inl rfl) rfl)
    shapeCasts_S1024_S1x1024

/-- A round's index: the least expert whose entry equals `mx`. -/
def firstAt (cur : FVec Ideal S64x1024 .f32) (mx : FVec Ideal S1x1024 .f32) : IVec S1x1024 32 :=
  shapeCast S1x1024 (multiReductionI .minsi [0] S1024
    (select (cmpf .oeq cur (broadcastTo S64x1024 mx broadcasts_S1x1024_S64x1024))
      (iota .tc S64x1024 32 [0] iota_S64x1024_d0_w32) (broadcast S64x1024 64#32)) 2147483647#32
    reduces_S64x1024_S1024 rfl) shapeCasts_S1024_S1x1024

/-- A round's overwrite: `-∞` at the expert `ix`. -/
def strike (cur : FVec Ideal S64x1024 .f32) (ix : IVec S1x1024 32) : FVec Ideal S64x1024 .f32 :=
  select (cmpi .eq (iota .tc S64x1024 32 [0] iota_S64x1024_d0_w32) (broadcastTo S64x1024 ix broadcasts_S1x1024_S64x1024))
    (broadcast S64x1024 (Scalar.ofBits .f32 0xFF800000#32)) cur

/-- The signed minimum of two words, read as integers. -/
theorem toInt_minsi (a b : BitVec 32) : (IntOp.minsi a b).toInt = min a.toInt b.toInt := by
  unfold IntOp.minsi
  rw [BitVec.slt_eq_decide]
  by_cases h : a.toInt < b.toInt
  · rw [if_pos (decide_eq_true h), min_eq_left h.le]
  · rw [if_neg (by simpa using h), min_eq_right (not_lt.mp h)]

/-- A word of a small natural, read as an integer. -/
theorem toInt_small (k : Nat) (hk : k ≤ 64) : (BitVec.ofNat 32 k).toInt = k := by
  rw [BitVec.toInt_eq_toNat_of_lt] <;> rw [BitVec.toNat_ofNat, Nat.mod_eq_of_lt (by omega)]
  omega

/-- The least signed word among the positions where a condition holds, the others holding 64. -/
theorem fold_minsi_eq (P : Fin 64 → Prop) [DecidablePred P] (p : Fin 64) (hp : P p) (hmin : ∀ e, P e → p ≤ e) :
    Finset.univ.fold IntOp.minsi 2147483647#32 (fun e : Fin 64 => if P e then BitVec.ofNat 32 e.val else 64#32)
      = BitVec.ofNat 32 p.val := by
  apply BitVec.eq_of_toInt_eq
  rw [← Finset.fold_hom (op' := min) toInt_minsi, toInt_small p.val p.isLt.le]
  have hval : ∀ e : Fin 64, (if P e then BitVec.ofNat 32 e.val else 64#32).toInt = if P e then (e.val : Int) else 64 := by
    intro e
    split
    · exact toInt_small _ e.isLt.le
    · exact toInt_small 64 le_rfl
  simp only [hval]
  have hpl : p.val < 64 := p.isLt
  apply le_antisymm
  · exact (Finset.fold_min_le _).mpr (Or.inr ⟨p, Finset.mem_univ _, by rw [if_pos hp]⟩)
  · refine (Finset.le_fold_min _).mpr ⟨?_, fun e _ => ?_⟩
    · have : (2147483647#32 : BitVec 32).toInt = 2147483647 := by decide
      rw [this]
      omega
    · split
      · rename_i he
        exact_mod_cast hmin e he
      · omega

/-- The maximum of a column whose largest entry is at `p`. -/
theorem best_apply (cur : FVec Ideal S64x1024 .f32) (t : Fin 1024) (p : Fin 64)
    (h : ∀ e, cur (ix2 e t) ≤ cur (ix2 p t)) : best cur (ix2 0 t) = cur (ix2 p t) := by
  pointwise [best]
  rw [ofBits_neg_inf]
  exact fold_max_eq (fun e => cur (ix2 e t)) p h

/-- The index of a column whose least expert attaining `mx` is `p`. -/
theorem firstAt_apply (cur : FVec Ideal S64x1024 .f32) (mx : FVec Ideal S1x1024 .f32) (t : Fin 1024) (p : Fin 64)
    (hp : cur (ix2 p t) = mx (ix2 0 t)) (hmin : ∀ e, cur (ix2 e t) = mx (ix2 0 t) → p ≤ e) :
    firstAt cur mx (ix2 0 t) = BitVec.ofNat 32 p.val := by
  pointwise [firstAt]
  exact fold_minsi_eq (fun e => cur (ix2 e t) = mx (ix2 0 t)) p hp hmin

/-- The overwritten tile, at one element. -/
theorem strike_apply (cur : FVec Ideal S64x1024 .f32) (ix : IVec S1x1024 32) (t : Fin 1024) (p : Fin 64)
    (h : ix (ix2 0 t) = BitVec.ofNat 32 p.val) (e : Fin 64) :
    strike cur ix (ix2 e t) = if e = p then ⊥ else cur (ix2 e t) := by
  pointwise [strike]
  rw [h, ofBits_neg_inf, WordCmp.cmpi_eq_ofNat (by have := e.isLt; omega) (by have := p.isLt; omega), WordCmp.select_ofBool]
  by_cases he : e = p
  · subst he
    simp
  · rw [if_neg he, if_neg (by simpa [Fin.ext_iff] using he)]

/-- Every column `t` of the tile is the row `x t` after `k` rounds. -/
def Sees (x : Fin 1024 → Fin 64 → EReal) (k : Nat) (cur : FVec Ideal S64x1024 .f32) : Prop :=
  ∀ t e, cur (ix2 e t) = left (x t) k e

section
variable {x : Fin 1024 → Fin 64 → EReal} {cur : FVec Ideal S64x1024 .f32}

/-- Round `k` finds the entry of rank `k`. -/
theorem Sees.best_eq (k : Fin 64) (h : Sees x k cur) (t : Fin 1024) :
    best cur (ix2 0 t) = x t (rank (x t) k) := by
  rw [best_apply cur t (rank (x t) k) fun e => by rw [h t e, h t, left_rank]; exact left_le (x t) k e, h t, left_rank]

/-- Round `k` finds the expert of rank `k`. -/
theorem Sees.firstAt_eq (hx : ∀ t e, ⊥ < x t e) (k : Fin 64) (h : Sees x k cur) (t : Fin 1024) :
    firstAt cur (best cur) (ix2 0 t) = BitVec.ofNat 32 (rank (x t) k).val := by
  apply firstAt_apply
  · rw [h.best_eq k t, h t, left_rank]
  · intro e he
    rw [h.best_eq k t, h t] at he
    exact rank_le_of_left_eq (x t) (hx t) k e he

/-- Round `k` leaves the rows of `k + 1` rounds. -/
theorem Sees.next (hx : ∀ t e, ⊥ < x t e) (k : Fin 64) (h : Sees x k cur) :
    Sees x (k.val + 1) (strike cur (firstAt cur (best cur))) := by
  intro t e
  rw [strike_apply cur _ t _ (h.firstAt_eq hx k t) e, h t e]
  exact left_succ (x t) k e
end

/-- The tile after `k` rounds. -/
def after (cur : FVec Ideal S64x1024 .f32) : Nat → FVec Ideal S64x1024 .f32
  | 0 => cur
  | k + 1 => strike (after cur k) (firstAt (after cur k) (best (after cur k)))

/-- After `k` rounds the tile holds the rows of `k` rounds. -/
theorem sees_after {x : Fin 1024 → Fin 64 → EReal} (hx : ∀ t e, ⊥ < x t e) (cur : FVec Ideal S64x1024 .f32)
    (h : ∀ t e, cur (ix2 e t) = x t e) : ∀ k : Nat, k ≤ 64 → Sees x k (after cur k)
  | 0, _ => fun t e => (h t e).trans (congrFun (left_zero (x t)) e).symm
  | k + 1, hk => Sees.next hx ⟨k, hk⟩ (sees_after hx cur h k (Nat.le_of_succ_le hk))

end Cert.Gate

end
-- ==== Proof.Payloads.lean ====
/-
  What one grid point of the kernel computes from its blocks. The first chunk's point stores its partial logits in the
  scratch; the second chunk's point adds its own, runs the eight rounds of Proof/Rounds.lean and stores the indices and
  the weights. Each stored tile is read here at one element, as the rank-`j` expert or its weight (Proof/Spec.lean).
-/
module

public import proofs.«01_k».proof.Proof.Rounds
public import Idealize.ShloMosaic.Lib.Pipeline.ValueKit

@[expose] public section

set_option maxRecDepth 16384

noncomputable section

namespace Cert.Gate

open Idealize.ShloMosaic Cert.KernelIdeal Cert.KernelIdeal.Gen

/-- The expert numbers down the tile. -/
abbrev experts : IVec S64x1024 32 := iota .tc S64x1024 32 [0] iota_S64x1024_d0_w32

/-- The indices the kernel stores from the partial logits `a` (this chunk) and `b` (the chunk before). -/
abbrev idxTile (a : FVec Ideal S64x1024 .f32) (b : Vec Ideal S64x1024 .f32) : IVec S1024x8 32 :=
  k0_pay3 experts (k0_pay7 a b) (k0_pay10 a b) (k0_pay13 a b)
      (k0_pay18 experts (k0_pay16 a b) k0_pay17)
      (k0_pay21 experts (k0_pay14 a b) (k0_pay16 a b) k0_pay17)
      (k0_pay24 experts (k0_pay14 a b) (k0_pay16 a b) k0_pay17)
      (k0_pay27 experts (k0_pay14 a b) (k0_pay16 a b) k0_pay17)
      (k0_pay28 experts (k0_pay14 a b) (k0_pay16 a b) k0_pay17)
      (k0_pay29 experts (k0_pay14 a b) (k0_pay16 a b) k0_pay17)

/-- The weights the kernel stores from the same. -/
abbrev weightTile (a : FVec Ideal S64x1024 .f32) (b : Vec Ideal S64x1024 .f32) : FVec Ideal S1024x8 .f32 :=
    k0_pay4 (k0_pay6 a b) (k0_pay9 a b) (k0_pay12 a b) (k0_pay15 a b)
      (k0_pay20 experts (k0_pay14 a b) (k0_pay16 a b) k0_pay17)
      (k0_pay23 experts (k0_pay14 a b) (k0_pay16 a b) k0_pay17)
      (k0_pay26 experts (k0_pay14 a b) (k0_pay16 a b) k0_pay17)
      (k0_pay29 experts (k0_pay14 a b) (k0_pay16 a b) k0_pay17)

/-- Eight rows of one token each, one under the other. -/
def stack {α : Type} (f : Nat → S1x1024.Idx → α) : S8x1024.Idx → α :=
  concatenate S8x1024 0 [⟨S1x1024, f 0⟩, ⟨S1x1024, f 1⟩, ⟨S1x1024, f 2⟩, ⟨S1x1024, f 3⟩, ⟨S1x1024, f 4⟩, ⟨S1x1024, f 5⟩, ⟨S1x1024, f 6⟩, ⟨S1x1024, f 7⟩] concatenates_S1x1024_S1x1024_S1x1024_S1x1024_S1x1024_S1x1024_S1x1024_S1x1024_S8x1024_d0

/-- Row `j` of a stack. -/
theorem stack_apply {α : Type} (f : Nat → S1x1024.Idx → α) (j : Fin 8) (t : Fin 1024) :
    stack f (ix2 j t) = f j.val (ix2 0 t) := by
  pointwise [stack]
  fin_vals j with hk
  all_goals
    simp only [hk, Nat.reduceSub, Nat.reduceLT, ↓reduceDIte]
    rfl

/-- The gate's weights of eight stacked rows of maxima: exponentials of the distances to the first row, divided by their
    sum, divided again by the sum of the quotients plus the literal. Turned to one row per token. -/
def gateTile (rows : FVec Ideal S8x1024 .f32) : FVec Ideal S1024x8 .f32 :=
  let down (u : FVec Ideal S8x1024 .f32) : FVec Ideal S1x1024 .f32 :=
    shapeCast S1x1024 (multiReduction .add [0] S1024 u 0x00000000#32 reduces_S8x1024_S1024 (.inl rfl) rfl)
      shapeCasts_S1024_S1x1024
  let over (u : FVec Ideal S1x1024 .f32) : FVec Ideal S8x1024 .f32 := broadcastTo S8x1024 u broadcasts_S1x1024_S8x1024
  let raised := exp (subf rows (over (extractStridedSlice S1x1024 ![0, 0] rows slices_S8x1024_o0_0_S1x1024)))
  let soft := divf raised (over (down raised))
  transpose S1024x8 [1, 0]
    (divf soft (over (addf (down soft) (broadcast S1x1024 (Scalar.ofBits .f32 0x1E3CE508#32)))))
    transposes_S8x1024_p1_0_S1024x8

/-- The indices are the eight rounds' indices, stacked and turned to one row per token. -/
theorem idxTile_eq (a b) : idxTile a b =
  transpose S1024x8 [1, 0] (stack fun k => firstAt (after (addf b a) k) (best (after (addf b a) k))) transposes_S8x1024_p1_0_S1024x8 := rfl

/-- The weights are the gate of the eight rounds' maxima. -/
theorem weightTile_eq (a b) : weightTile a b =
  gateTile (stack fun k => (best (after (addf b a) k))) := rfl

/-- The gate of a stack, at token `t` and place `j`. -/
theorem gateTile_apply (rows : FVec Ideal S8x1024 .f32) (j : Fin 8) (t : Fin 1024) :
    gateTile rows (ix2 t j) = gate (fun k => rows (ix2 k t)) j := by
  pointwise [gateTile]
  rfl

/-- The indices of a tile whose columns are the rows `x`: the experts of rank 0 to 7. -/
theorem idxTile_apply {x : Fin 1024 → Fin 64 → EReal} (hx : ∀ t e, ⊥ < x t e) (a : FVec Ideal S64x1024 .f32)
    (b : Vec Ideal S64x1024 .f32) (h : ∀ t e, addf b a (ix2 e t) = x t e) (t : Fin 1024) (j : Fin 8) :
    idxTile a b (ix2 t j) = topIdx (x t) j := by
  rw [idxTile_eq]
  pointwise
  rw [stack_apply]
  exact Sees.firstAt_eq hx (place j) (sees_after hx _ h (place j).val (place j).isLt.le) t

/-- The weights of a tile whose columns are the rows `x`: the gate of the eight largest entries. -/
theorem weightTile_apply {x : Fin 1024 → Fin 64 → EReal} (hx : ∀ t e, ⊥ < x t e) (a : FVec Ideal S64x1024 .f32)
    (b : Vec Ideal S64x1024 .f32) (h : ∀ t e, addf b a (ix2 e t) = x t e) (t : Fin 1024) (j : Fin 8) :
    weightTile a b (ix2 t j) = gate (topVal (x t)) j := by
  rw [weightTile_eq, gateTile_apply]
  congr 1
  funext k
  rw [stack_apply]
  exact Sees.best_eq (place k) (sees_after hx _ h (place k).val (place k).isLt.le) t

section
variable (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1024x8 .i32) (harg4 : arg4.IsWhole) (arg5 : Memref sig .tc .vmem S1024x8 .f32) (harg5 : arg5.IsWhole) (arg6 : Memref sig .tc .vmem S64x1024 .f32) (harg6 : arg6.IsWhole)
    (x0 : Vec Ideal S1024x2048 .f32) (x1 : Vec Ideal S64x2048 .f32) (xs0 : Vec Ideal S64x1024 .f32)

/-- A first chunk's point leaves its partial logits in the scratch. -/
theorem scratch_A (hc0 : cond0_0 i) (hc1 : ¬cond0_1 i) :
  sout0_A_0 c i arg2 harg2 arg3 harg3 arg4 harg4 arg5 harg5 arg6 harg6 hc0 hc1 x0 x1 = k0_pay1 x1 x0 := by
  frame_out
  unfold k0_pay2
  exact shapeCast_self _ _

/-- A second chunk's point stores the indices of its partial logits and the scratch's. -/
theorem idx_B (hc0 : ¬cond0_0 i) (hc1 : cond0_1 i) :
  out0_B_2 c i arg2 harg2 arg3 harg3 arg4 harg4 arg5 harg5 arg6 harg6 hc0 hc1 x0 x1 xs0 = idxTile (k0_pay1 x1 x0) xs0 := by
  frame_out

/-- A second chunk's point stores the weights of the same. -/
theorem weight_B (hc0 : ¬cond0_0 i) (hc1 : cond0_1 i) :
  out0_B_3 c i arg2 harg2 arg3 harg3 arg4 harg4 arg5 harg5 arg6 harg6 hc0 hc1 x0 x1 xs0 = weightTile (k0_pay1 x1 x0) xs0 := by
  frame_out
end

end Cert.Gate

end
-- ==== Proof.KernelValue.lean ====
/-
  The kernel's two results as functions of its arguments. The grid's points alternate between the two chunks of the
  hidden dimension: point `2 t` handles the first half of tile `t`, point `2 t + 1` the second. The two partial sums add
  up to the logits of Proof/Spec.lean, so the odd points' blocks hold the experts of rank 0 to 7 and their weights.
-/
module

public import proofs.«01_k».proof.Proof.Payloads
public import proofs.«01_k».proof.Proof.Gen.KernelIdeal.Value
public import Idealize.ShloMosaic.Lib.Pipeline.ValueKit

@[expose] public section

set_option maxRecDepth 16384

noncomputable section

namespace Cert.Gate

open Idealize.ShloMosaic Idealize.ShloMosaic.TcCoe Cert.KernelIdeal Cert.KernelIdeal.Gen Idealize.SL.Sem

variable (m : (ℓ : Loc nD τ sig) → Buf (Elt Ideal) ℓ) (c : Dev nD)

/-- Which block of each argument a grid point reads. -/
theorem window_facts : ∀ t : Fin cfg0.N, win0_0.index t = ![t.val / 2, t.val % 2] ∧ win0_1.index t = ![0, t.val % 2] := by
  decide +kernel

/-- The block of hidden states at a point: the tile's tokens, the chunk's coordinates. -/
theorem hs_block (t : Fin cfg0.N) (r : Fin 1024) (k : Fin 2048) (ρ : Fin 8192) (κ : Fin 4096)
    (hρ : ρ.val = t.val / 2 * 1024 + r.val) (hκ : κ.val = t.val % 2 * 2048 + k.val) :
    (iblk m c 0 t : Vec Ideal S1024x2048 .f32) (ix2 r k)
      = m ((c : Thread nD τ).loc main_arg0) (ix3 ⟨ρ.val / 4096, by omega⟩ ⟨ρ.val % 4096, by omega⟩ κ) := by
  have hi := (window_facts t).1
  blk_ext! [iblk, V, hi]

/-- The block of the weight matrix at a point: every expert, the chunk's coordinates. -/
theorem w_block (t : Fin cfg0.N) (e : Fin 64) (k : Fin 2048) (κ : Fin 4096)
    (hκ : κ.val = t.val % 2 * 2048 + k.val) :
    (iblk m c 1 t : Vec Ideal S64x2048 .f32) (ix2 e k) = m ((c : Thread nD τ).loc main_arg1) (ix2 e κ) := by
  have hi := (window_facts t).2
  blk_ext [iblk, V, hi]

/-- One chunk's partial logit. -/
theorem part_apply (w : Vec Ideal S64x2048 .f32) (h : Vec Ideal S1024x2048 .f32) (e : Fin 64) (t : Fin 1024) :
    k0_pay1 w h (ix2 e t) = ∑ k : Fin 2048, h (ix2 t k) * w (ix2 e k) := by
  pointwise [k0_pay1]
  exact Finset.sum_congr rfl fun k _ => mul_comm _ _

/-- The rows of logits that the arguments in `m` give. -/
abbrev logits (r : Fin 8192) : Fin 64 → EReal :=
  logit (m ((c : Thread nD τ).loc main_arg0)) (m ((c : Thread nD τ).loc main_arg1)) r

/-- The two chunks' partial logits of one tile of tokens add up to the logits. -/
theorem chunks_add (s t : Fin cfg0.N) (hst : t.val = s.val + 1) (hs : s.val % 2 = 0) (q : Fin 1024) (e : Fin 64)
    (r : Fin 8192) (hr : r.val = t.val / 2 * 1024 + q.val) :
    addf (k0_pay1 (iblk m c 1 s) (iblk m c 0 s)) (k0_pay1 (iblk m c 1 t) (iblk m c 0 t)) (ix2 e q) = logits m c r e := by
  have hd : s.val / 2 = t.val / 2 := by omega
  have ht : t.val % 2 = 1 := by omega
  pointwise
  unfold logits logit
  rw [part_apply, part_apply, Fin.sum_univ_two_halves 2048 2048 rfl]
  congr 1 <;> refine Finset.sum_congr rfl fun k _ => ?_
  · rw [hs_block m c s q k r ⟨k.val, by omega⟩ (by omega) (by dsimp only; omega),
      w_block m c s e k ⟨k.val, by omega⟩ (by dsimp only; omega)]
  · rw [hs_block m c t q k r ⟨2048 + k.val, by omega⟩ (by omega) (by dsimp only; omega),
      w_block m c t e k ⟨2048 + k.val, by omega⟩ (by dsimp only; omega)]

/-- What an even point leaves in the scratch: its chunk's partial logits. -/
theorem scratch_even (t : Fin cfg0.N) (h : t.val % 2 = 0) :
    (outsAt0 m c t.val t.isLt).2.2 = k0_pay1 (iblk m c 1 t) (iblk m c 0 t) := by
  rw [outsAt0_A m c t h (by omega)]
  dsimp only
  rw [scratch_A]

/-- What an odd point leaves in the two outputs' blocks, where no logit of its tokens is `-∞`. -/
theorem tile_odd (t : Fin cfg0.N) (h : t.val % 2 = 1) (hx : ∀ r e, ⊥ < logits m c r e) (q : Fin 1024) (j : Fin 8)
    (r : Fin 8192) (hr : r.val = t.val / 2 * 1024 + q.val) :
    (outsAt0 m c t.val t.isLt).1 (ix2 q j) = topIdx (logits m c r) j
    ∧ (outsAt0 m c t.val t.isLt).2.1 (ix2 q j) = gate (topVal (logits m c r)) j := by
  have hN : t.val < 16 := lt_of_lt_of_eq t.isLt N_0
  obtain ⟨s, hst⟩ : ∃ s : Fin cfg0.N, t.val = s.val + 1 := ⟨⟨t.val - 1, by omega⟩, by dsimp only; omega⟩
  have hs : s.val % 2 = 0 := by omega
  obtain ⟨row, hrow⟩ : ∃ row : Fin 1024 → Fin 8192, ∀ q, (row q).val = t.val / 2 * 1024 + q.val :=
    ⟨fun q => ⟨t.val / 2 * 1024 + q.val, by omega⟩, fun _ => rfl⟩
  have hadd : ∀ q e, addf (k0_pay1 (iblk m c 1 s) (iblk m c 0 s)) (k0_pay1 (iblk m c 1 t) (iblk m c 0 t)) (ix2 e q)
      = logits m c (row q) e := fun q e => chunks_add m c s t hst hs q e (row q) (hrow q)
  obtain rfl : r = row q := Fin.ext (hr.trans (hrow q).symm)
  have hc : ∀ n hn, n = s.val → (outsAt0 m c n hn).2.2 = k0_pay1 (iblk m c 1 s) (iblk m c 0 s) := by
    rintro _ _ rfl
    exact scratch_even m c s hs
  rw [outsAt0_B m c t (by omega) h, hc (t.val - 1) _ (by omega)]
  constructor
  · dsimp only
    rw [idx_B]
    exact idxTile_apply (fun q => hx (row q)) _ _ hadd q j
  · dsimp only
    rw [weight_B]
    exact weightTile_apply (fun q => hx (row q)) _ _ hadd q j

/-- The kernel's first result: the experts of rank 0 to 7. -/
theorem kernel_idx (hx : ∀ r e, ⊥ < logits m c r e) (r : Fin 8192) (j : Fin 8) :
    Value.G2 m c (ix2 r j) = topIdx (logits m c r) j := by
  have hN : cfg0.N = 16 := N_0
  have hp : Value.pt2Of (ix2 r j) = 2 * (r.val / 1024) + 1 := by
    show 2 * (1 * (r.val / 1024 - 0) + 1 * (j.val / 8 - 0)) + 1 = _
    omega
  have hlt : Value.pt2Of (ix2 r j) < cfg0.N := by omega
  have hl : Value.loc2Of (ix2 r j) = ix2 ⟨r.val % 1024, by omega⟩ j := by
    funext a
    match a with
    | ⟨0, _⟩ => rfl
    | ⟨1, _⟩ => exact Fin.ext (Nat.mod_eq_of_lt j.isLt)
  unfold Value.G2
  rw [dif_pos hlt, ← Value.outsAt0_sweep m c _ hlt, hl]
  exact (tile_odd m c ⟨_, hlt⟩ (by dsimp only; omega) hx _ j r (by dsimp only; omega)).1

/-- The kernel's second result: their weights. -/
theorem kernel_weight (hx : ∀ r e, ⊥ < logits m c r e) (r : Fin 8192) (j : Fin 8) :
    Value.G3 m c (ix2 r j) = gate (topVal (logits m c r)) j := by
  have hN : cfg0.N = 16 := N_0
  have hp : Value.pt3Of (ix2 r j) = 2 * (r.val / 1024) + 1 := by
    show 2 * (1 * (r.val / 1024 - 0) + 1 * (j.val / 8 - 0)) + 1 = _
    omega
  have hlt : Value.pt3Of (ix2 r j) < cfg0.N := by omega
  have hl : Value.loc3Of (ix2 r j) = ix2 ⟨r.val % 1024, by omega⟩ j := by
    funext a
    match a with
    | ⟨0, _⟩ => rfl
    | ⟨1, _⟩ => exact Fin.ext (Nat.mod_eq_of_lt j.isLt)
  unfold Value.G3
  rw [dif_pos hlt, ← Value.outsAt0_sweep m c _ hlt, hl]
  exact (tile_odd m c ⟨_, hlt⟩ (by dsimp only; omega) hx _ j r (by dsimp only; omega)).2

end Cert.Gate

end
-- ==== Proof.ReferenceValue.lean ====
/-
  The reference's two results, read at an index: its matrix product is the table of logits, its top-k the experts of
  rank 0 to 7 (the sort is stable), and its softmax, measured from the row's maximum, is the one measured from the first
  of the eight, which is that maximum.
-/
module

public import proofs.«01_k».proof.Proof.Spec
public import proofs.«01_k».proof.Proof.Gen.ReferenceIdeal.Run
public import Idealize.ShloMosaic.Lib.Tactic.CleanTypes

@[expose] public section

set_option maxRecDepth 16384

noncomputable section

namespace Cert.Gate.Ref

open Idealize.ShloMosaic Idealize.ShloMosaic.TcCoe Cert.ReferenceIdeal Cert.ReferenceIdeal.Gen Cert.Gate

/-- The reference's table of logits. -/
abbrev table (hs : FVec Ideal S2x4096x4096 .f32) (w : FVec Ideal S64x4096 .f32) : FVec Ideal S8192x64 .f32 :=
  Host.dotGeneral dot_S8192x4096_S4096x64_S8192x64_1_0_0_1_n_n none
    (shapeCast S8192x4096 hs shapeCasts_S2x4096x4096_S8192x4096)
    (transpose S4096x64 [1, 0] w transposes_S64x4096_S4096x64_1_0)

theorem table_apply (hs : FVec Ideal S2x4096x4096 .f32) (w : FVec Ideal S64x4096 .f32) (r : Fin 8192) (e : Fin 64) :
    table hs w (ix2 r e) = logit hs w r e := by
  unfold table logit
  pointwise

/-- The comparator of the reference's top-k on a row is the ranking's. -/
theorem comparator_eq (x : Fin 64 → EReal) :
    (fun k k' : Fin 64 => FloatOps.cmpfTotal (F := Ideal) (φ := .f32) .gt (x k) (x k') == 1#1) = larger x := by
  funext a b
  rw [Ideal.cmpfTotal_def]
  unfold larger Ideal.cmp
  by_cases h : x b < x a <;> simp [CmpDirection.ordered, h]

/-- The top-k of a table: values and indices by rank within the row. -/
theorem topK_apply (x : FVec Ideal S8192x64 .f32) (r : Fin 8192) (j : Fin 8) :
    (Host.topK S8192x8 1 (FloatOps.cmpfTotal .gt) x sliceFits_S8192x64_S8192x8).1 (ix2 r j)
        = topVal (fun e => x (ix2 r e)) j
    ∧ (Host.topK S8192x8 1 (FloatOps.cmpfTotal .gt) x sliceFits_S8192x64_S8192x8).2 (ix2 r j)
        = topIdx (fun e => x (ix2 r e)) j := by
  have along : ∀ p k : Fin 64, (ix2 r p : S8192x64.Idx).along (1 : Fin 2) k = ix2 r k := by
    intro p k
    funext a
    match a with
    | ⟨0, _⟩ => rfl
    | ⟨1, _⟩ => rfl
  unfold Host.topK Host.sort2
  pointwise
  simp only [along]
  rw [comparator_eq fun e => x (ix2 r e)]
  exact ⟨rfl, rfl⟩

/-- The maximum from which the reference measures: that of the eight values, which is the first. -/
theorem peak_eq (x : Fin 64 → EReal) :
    max ⊥ (Finset.univ.fold max ⊥ fun k => topVal x k) = topVal x 0 := by
  rw [fold_max_eq (topVal x) 0 (topVal_le x), max_eq_right bot_le]

section
variable (m : (ℓ : Loc nD τ sig) → Buf (Elt Ideal) ℓ) (c : Dev nD)

/-- The rows of logits that the reference's arguments give. -/
abbrev logits (r : Fin 8192) : Fin 64 → EReal :=
  logit (m ((c : Thread nD τ).loc main_arg0)) (m ((c : Thread nD τ).loc main_arg1)) r

/-- The reference's first result. -/
theorem idx_apply (r : Fin 8192) (j : Fin 8) :
    (Host.topK S8192x8 1 (FloatOps.cmpfTotal .gt)
      (table (m ((c : Thread nD τ).loc main_arg0)) (m ((c : Thread nD τ).loc main_arg1))) sliceFits_S8192x64_S8192x8).2 (ix2 r j)
      = topIdx (logits m c r) j := by
  rw [(topK_apply _ r j).2]
  simp only [table_apply]

/-- The reference's second result. -/
theorem weight_apply (r : Fin 8192) (j : Fin 8) : Value.res_main_v19 m c (ix2 r j) = gate (topVal (logits m c r)) j := by
  have hV : ∀ k : Fin 8, (Host.topK S8192x8 1 (FloatOps.cmpfTotal .gt)
      (table (m ((c : Thread nD τ).loc main_arg0)) (m ((c : Thread nD τ).loc main_arg1))) sliceFits_S8192x64_S8192x8).1 (ix2 r k)
      = topVal (logits m c r) k := by
    intro k
    rw [(topK_apply _ r k).1]
    simp only [table_apply]
  unfold Value.res_main_v19
  clean_types
  unfold table at hV
  generalize (Host.topK S8192x8 1 (FloatOps.cmpfTotal .gt) (_ : FVec Ideal S8192x64 .f32) sliceFits_S8192x64_S8192x8).1 = V at hV ⊢
  pointwise
  simp only [hV, ofBits_neg_inf, peak_eq]
  rfl
end

end Cert.Gate.Ref

end
-- ==== Proof.Finite.lean ====
/-
  What the precondition gives: finite arguments have no logit equal to `-∞`.
-/
module

public import proofs.«01_k».proof.Proof.Spec
public import proofs.«01_k».proof.Pre_finite_arguments

@[expose] public section

set_option maxRecDepth 16384

noncomputable section

namespace Cert.Gate

open Idealize.ShloMosaic Cert.Pre_finite_arguments

/-- The side conditions of the precondition's two broadcasts. -/
theorem preFacts : Cert.Pre_finite_arguments.Facts := ⟨by decide, by decide⟩

/-- An extended real whose absolute value is below `+∞` is a real number. -/
theorem real_of_abs_lt (a : EReal) (h : max a (-a) < ⊤) : ∃ b : ℝ, a = b := by
  induction a using EReal.rec with
  | bot => simp at h
  | coe b => exact ⟨b, rfl⟩
  | top => simp at h

/-- The f32 pattern of plus infinity denotes the greatest extended real. -/
theorem ofBits_inf : Ideal.ofBits .f32 0x7F800000#32 = ⊤ := by simp [Ideal.ofBits, Ideal.ieee]

/-- A comparison bit that is set says the comparison holds. -/
theorem real_of_bit (a : EReal) (h : BitVec.ofBool (decide (max a (-a) < ⊤)) = 1#1) : ∃ b : ℝ, a = b := by
  apply real_of_abs_lt
  by_contra hn
  rw [decide_eq_false hn] at h
  exact absurd h (by decide)

/-- A finite sum of reals is a real. -/
theorem real_sum {ι : Type} (s : Finset ι) (f : ι → EReal) (hf : ∀ k, ∃ b : ℝ, f k = b) : ∃ b : ℝ, ∑ k ∈ s, f k = b := by
  classical
  induction s using Finset.induction_on with
  | empty => exact ⟨0, by simp⟩
  | insert k s hk ih =>
    obtain ⟨a, ha⟩ := hf k
    obtain ⟨b, hb⟩ := ih
    exact ⟨a + b, by rw [Finset.sum_insert hk, ha, hb, EReal.coe_add]⟩

/-- A product of two reals is a real. -/
theorem real_mul {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

/-- Under the precondition no logit is `-∞`. -/
theorem logit_above (hPre : Cert.Pre_finite_arguments.Facts) (hs : FVec Ideal S2x4096x4096 .f32) (w : FVec Ideal S64x4096 .f32)
    (h0 : (Cert.Pre_finite_arguments.fn (F := Ideal) hs w).1 = fun _ => 1#1)
    (h1 : (Cert.Pre_finite_arguments.fn (F := Ideal) hs w).2 = fun _ => 1#1) (r : Fin 8192) (e : Fin 64) :
    ⊥ < logit hs w r e := by
  have hhs : ∀ i, ∃ b : ℝ, hs i = b := by
    intro i
    have h := congrFun h0 i
    pointwise [Cert.Pre_finite_arguments.fn] at h
    rw [Ideal.absf_def, ofBits_inf] at h
    exact real_of_bit _ h
  have hw : ∀ i, ∃ b : ℝ, w i = b := by
    intro i
    have h := congrFun h1 i
    pointwise [Cert.Pre_finite_arguments.fn] at h
    rw [Ideal.absf_def, ofBits_inf] at h
    exact real_of_bit _ h
  obtain ⟨b, hb⟩ := real_sum (Finset.univ : Finset (Fin 4096))
    (fun k => hs (ix3 ⟨r.val / 4096, by omega⟩ ⟨r.val % 4096, by omega⟩ k) * w (ix2 e k)) fun k => real_mul (hhs _) (hw _)
  unfold logit
  rw [hb]
  exact EReal.bot_lt_coe b

end Cert.Gate

end
-- ==== Proof.lean ====
/-
  The certificate of the top-8 gate. Both programs compute, for every token, the experts of rank 0 to 7 among its 64
  logits and the gate's weights of those eight logits (Proof/Spec.lean): the kernel by Proof/KernelValue.lean, the
  reference by Proof/ReferenceValue.lean, so under the precondition their results agree at every index.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Gate

local instance : Cert.Pre_finite_arguments.Facts := preFacts

/-- The kernel terminates on every input with its arguments unchanged and every counter at zero. -/
theorem frame_kernel : Cert.quiescent_Kernel := fun m g _ => Cert.Kernel.Gen.frame m g

/-- The same of its ideal program. -/
theorem frame_kernelIdeal : Cert.quiescent_KernelIdeal := fun m g _ => Cert.KernelIdeal.Gen.frame m g

/-- The same under the precondition. -/
theorem frame_kernelIdeal_pre : Cert.quiescent_KernelIdeal_pre_finite_arguments :=
  fun m g _ => Cert.KernelIdeal.Gen.frame m g

/-- The same of the reference: its run leaves the arguments as they were, and it declares no counter. -/
theorem frame_reference : Cert.quiescent_ReferenceIdeal := fun m g _ =>
  (θ_run _ _ _).mono (fun r h => ⟨fun c => (h c).2.2, sem_eq_zero_of_no_sems (by decide) r.2⟩)
    (Cert.ReferenceIdeal.Value.run m g)

/-- The same under the precondition. -/
theorem frame_reference_pre : Cert.quiescent_ReferenceIdeal_pre_finite_arguments :=
  fun m g _ => frame_reference m g trivial

/-- Under the precondition, from equal arguments, the kernel's two results are the reference's. -/
theorem same_results : Cert.algebraic_KernelIdeal_ReferenceIdeal_pre_finite_arguments := by
  intro m g m' g' hpre hagree
  have hx : ∀ (c : Dev Cert.KernelIdeal.nD) (r : Fin 8192) (e : Fin 64), ⊥ < logits m c r e := fun c r e =>
    logit_above preFacts _ _ (hpre c).1 (hpre c).2 r e
  have hrow : ∀ (c : Dev Cert.KernelIdeal.nD) (r : Fin 8192), Ref.logits m' c r = logits m c r := by
    intro c r
    unfold Ref.logits logits
    rw [(hagree c).1, (hagree c).2]
  refine ⟨fun c => Cert.KernelIdeal.Value.G2 m c, fun c => Cert.KernelIdeal.Value.G3 m c,
    Cert.KernelIdeal.Value.run m g, ?_⟩
  refine (θ_run _ _ _).mono (fun r h c => ⟨?_, ?_, (h c).2.2⟩) (Cert.ReferenceIdeal.Value.run m' g')
  · rw [(h c).1]
    funext i
    obtain ⟨t, j, rfl⟩ : ∃ (t : Fin 8192) (j : Fin 8), i = ix2 t j := ⟨i 0, i 1, eq_ix2 i⟩
    refine (Ref.idx_apply m' c t j).trans ?_
    rw [hrow c t]
    exact (kernel_idx m c (hx c) t j).symm
  · rw [(h c).2.1]
    funext i
    obtain ⟨t, j, rfl⟩ : ∃ (t : Fin 8192) (j : Fin 8), i = ix2 t j := ⟨i 0, i 1, eq_ix2 i⟩
    refine (Ref.weight_apply m' c t j).trans ?_
    rw [hrow c t]
    exact (kernel_weight m c (hx c) t j).symm

/-- The certificate. -/
theorem claim : Cert.Claim :=
  ⟨Cert.Kernel.Gen.facts, Cert.KernelIdeal.Gen.facts, Cert.ReferenceIdeal.Gen.facts, preFacts,
    frame_kernel, frame_kernelIdeal, frame_kernelIdeal_pre, frame_reference, frame_reference_pre, trivial, same_results⟩

end Cert.Proof

end
